-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2x4096x1024 : Shape := ⟨3, ![2, 4096, 1024]⟩
abbrev S8192x1024 : Shape := ⟨2, ![8192, 1024]⟩
abbrev S1x4096x1024 : Shape := ⟨3, ![1, 4096, 1024]⟩
abbrev S256x1024 : Shape := ⟨2, ![256, 1024]⟩
abbrev S_ : Shape := ⟨0, ![]⟩
abbrev S1x256x1024 : Shape := ⟨3, ![1, 256, 1024]⟩

abbrev nBuf : Table → Nat
  | .hbm => 3
  | .shared => 4
  | _ => 0

abbrev bufTy : (tb : Table) → Fin (nBuf tb) → BufTy
  | .hbm, ⟨0, _⟩ => ⟨S2x4096x1024, .f32⟩
  | .hbm, ⟨1, _⟩ => ⟨S8192x1024, .f32⟩
  | .hbm, ⟨2, _⟩ => ⟨S1x4096x1024, .f32⟩
  | .shared, ⟨0, _⟩ => ⟨S256x1024, .f32⟩
  | .shared, ⟨1, _⟩ => ⟨S256x1024, .f32⟩
  | .shared, ⟨2, _⟩ => ⟨S256x1024, .f32⟩
  | .shared, ⟨3, _⟩ => ⟨S256x1024, .f32⟩
  | _, _ => ⟨S2x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev cc0_scratch0 : Ref sig .scScalar := ⟨.shared, 0, rfl⟩
abbrev cc0_scratch1 : Ref sig .scScalar := ⟨.shared, 1, rfl⟩
abbrev cc0_scratch2 : Ref sig .scScalar := ⟨.shared, 2, rfl⟩
abbrev cc0_scratch3 : Ref sig .scScalar := ⟨.shared, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c2048_i32 : BitVec 32 := 2048#32
  let v0 : BitVec 32 := Scalar.muli arg0 c2048_i32
  let v1 : BitVec 32 := Scalar.addi v0 c0_i32
  let c0_i32_0 : BitVec 32 := 0#32
  ![v1.toNat, 0]
def k0_off2 (i : grid0.Coords) (c0_i32_3 : BitVec 32) : Fin 3 → Nat :=
  let c0_i32_4 : BitVec 32 := 0#32
  let arg0 : BitVec 32 := BitVec.ofNat 32 (i 0).val
  let c2048_i32 : BitVec 32 := 2048#32
  let v0 : BitVec 32 := Scalar.muli arg0 c2048_i32
  let v6 : BitVec 32 := Scalar.addi v0 c0_i32_3
  let c0_i32_5 : BitVec 32 := 0#32
  ![0, v6.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S2x4096x1024 : Shape := ⟨3, ![2, 4096, 1024]⟩
abbrev S8192x1024 : Shape := ⟨2, ![8192, 1024]⟩
abbrev S4096x1024 : Shape := ⟨2, ![4096, 1024]⟩
abbrev S1x4096x1024 : Shape := ⟨3, ![1, 4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S8192x1024, .f32⟩
  | .hbm, ⟨2, _⟩ => ⟨S4096x1024, .f32⟩
  | .hbm, ⟨3, _⟩ => ⟨S1x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Setup.lean ====
/-
  The kernel as the launch theorem sees it, and the names the proof uses for its arrays, its four shared buffers and its
  eight DMA cells.
-/
module

public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring
public import proofs.«01_k».proof.Proof.Gen.KernelIdeal

@[expose] public section

noncomputable section

namespace Cert.Proof.SliceCopy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the resource algebra -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are apart and none of them is a kernel's; no shared buffer is a tile's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds are the left factor of the algebra; the transfers' counters the right. -/
abbrev EH : Emb UH (MT nD τ sig (HIx 1) (Elt F) ℕ UU ℕ) := embL

/-! ## The arrays and the buffers -/

/-- The encoding table, the result and the four shared buffers, as the kernel's body is given them. -/
abbrev tabW : Memref sig .scScalar .hbm S8192x1024 .f32 := Memref.whole main_arg1_scs
abbrev resW : Memref sig .scScalar .hbm S1x4096x1024 .f32 := Memref.whole main_v0_scs
abbrev bufW0 : Memref sig .scScalar .shared S256x1024 .f32 := Memref.whole cc0_scratch0
abbrev bufW1 : Memref sig .scScalar .shared S256x1024 .f32 := Memref.whole cc0_scratch1
abbrev bufW2 : Memref sig .scScalar .shared S256x1024 .f32 := Memref.whole cc0_scratch2
abbrev bufW3 : Memref sig .scScalar .shared S256x1024 .f32 := Memref.whole cc0_scratch3

/-- The places of the two arguments and of the result in a device's memory. -/
abbrev argLoc (d : Dev nD) : Loc nD τ sig := (SparseCore.T d).loc main_arg0
abbrev tabLoc (d : Dev nD) : Loc nD τ sig := (SparseCore.T d).loc main_arg1
abbrev resLoc (d : Dev nD) : Loc nD τ sig := (SparseCore.T d).loc main_v0

/-- The rows of the table that begin at the core's offset plus `w`, spelt as the body slices them. -/
abbrev tabChunk (i : grid0.Coords) (w : BitVec 32) (h : ∀ a, k0_off1 i w a + S256x1024.size a ≤ S8192x1024.size a) :
    Memref sig .scScalar .hbm S256x1024 .f32 :=
  tabW.slice (Rect.unit (s := S8192x1024) (k0_off1 i w) S256x1024.size h) (fun _ => rfl)

/-- The rows of the result that begin at the core's offset plus `w`, spelt as the body slices them. -/
abbrev resChunk (i : grid0.Coords) (w : BitVec 32) (h : ∀ a, k0_off2 i w a + S1x256x1024.size a ≤ S1x4096x1024.size a) :
    Memref sig .scScalar .hbm S256x1024 .f32 :=
  (resW.slice (Rect.unit (s := S1x4096x1024) (k0_off2 i w) S1x256x1024.size h) (fun _ => rfl)).squeeze S256x1024
    squeezes_S1x256x1024_S256x1024

/-- Chunk `r` of a core's share of the table, and of the result. -/
abbrev tabPart (i : grid0.Coords) (r : Fin 8) : Memref sig .scScalar .hbm S256x1024 .f32 :=
  tabChunk i (BitVec.ofNat 32 (256 * r.val)) (k0_off1_inb i r)
abbrev resPart (i : grid0.Coords) (r : Fin 8) : Memref sig .scScalar .hbm S256x1024 .f32 :=
  resChunk i (BitVec.ofNat 32 (256 * r.val)) (k0_off2_inb i r)

/-- The grid point of core `c`. -/
def coordsS (c : Fin (grid0.bound 0)) : grid0.Coords :=
  fun | 0 => c | ⟨_ + 1, h⟩ => absurd h (Nat.not_lt.2 (Nat.le_add_left _ _))

/-- Core `c`'s sequencer. -/
abbrev Sq (d : Dev nD) (c : Fin (grid0.bound 0)) : Thread nD τ := S d (c.castLE hcore0)

end Cert.Proof.SliceCopy
-- ==== Proof.Rows.lean ====
/-
  Which rows the kernel moves where: the elements of the table and of the result that a chunk names, and the result's
  contents as a function of the table's.
-/
module

public import proofs.«01_k».proof.Proof.Setup
public import Idealize.ShloMosaic.Lib.ValueLayout

@[expose] public section

noncomputable section

namespace Cert.Proof.SliceCopy

open Cert.KernelIdeal Cert.KernelIdeal.Gen

open Idealize.ShloMosaic
open Idealize.SL Idealize.SL.RA Idealize.SL.BI
open Idealize.SL.Sem

variable {F : FTy → Type}

/-- The element of the table that element `j` of the result is a copy of: the same row and the same column. -/
def source (j : S1x4096x1024.Idx) : S8192x1024.Idx
  | 0 => ⟨(j 1).val, lt_trans (j 1).isLt (show (4096 : Nat) < 8192 by decide)⟩
  | 1 => ⟨(j 2).val, (j 2).isLt⟩

/-- The result that belongs to the table `t`: its first 4096 rows. -/
def firstRows {d : Dev nD} (t : Buf (Elt F) (tabLoc d)) : Buf (Elt F) (resLoc d) := fun j => t (source j)

/-- Where the chunk of the result has its element `x`, the chunk of the table has the element the result copies. -/
theorem source_resChunk (i : grid0.Coords) (w : BitVec 32) (h1) (h2) (x : S256x1024.Idx) :
    (tabChunk i w h1).view.emb x = source ((resChunk i w h2).view.emb x) := by
  have hx : (resChunk i w h2).view.emb x
      = (Rect.unit (s := S1x4096x1024) (k0_off2 i w) S1x256x1024.size h2).emb (Fin.cons ⟨0, Nat.one_pos⟩ x) :=
    congrArg (Rect.unit (s := S1x4096x1024) (k0_off2 i w) S1x256x1024.size h2).emb
      (Shape.reshapeEquiv_cons_one (d := ![256, 1024]) _ x)
  rw [hx]
  funext a
  match a with
  | 0 => rfl
  | 1 => rfl

/-- Contents that read alike through a view agree on the view's elements. -/
theorem eq_on_of_read_eq {κ : Kind} {sp : Space} {sh : Shape} {e : EltTy} (v : View sig κ sp sh e)
    (f g : v.ty.Contents (Elt F)) (h : v.read (Elt F) f = v.read (Elt F) g) : ∀ j ∈ v.set, f j = g j := by
  intro j hj
  obtain ⟨x, -, rfl⟩ := Finset.mem_map.mp hj
  exact (cast_inj (congrArg (Elt F) v.elt_eq)).mp (congrFun h x)

/-- What the chunk of the table reads is what the chunk of the result reads off the first rows of the table. -/
theorem read_firstRows {d : Dev nD} (t : Buf (Elt F) (tabLoc d)) (i : grid0.Coords) (w : BitVec 32) (h1) (h2) :
    (tabChunk i w h1).view.read (Elt F) t = (resChunk i w h2).view.read (Elt F) (firstRows t) :=
  funext fun x => congrArg t (source_resChunk i w h1 h2 x)

/-- A chunk of the result that has been filled with what the chunk of the table reads holds the first rows of the table
    there. -/
theorem filled_eq {d : Dev nD} (t : Buf (Elt F) (tabLoc d)) (o : Buf (Elt F) (resLoc d)) (i : grid0.Coords) (w : BitVec 32) (h1) (h2)
    (X : S256x1024.Idx → Elt F .f32) (hX : X = (tabChunk i w h1).view.read (Elt F) t) :
    ∀ j ∈ (resChunk i w h2).view.set,
      (resChunk i w h2).view.writes (Elt F) o [⟨Rect.whole S256x1024, X⟩] j = firstRows t j :=
  eq_on_of_read_eq (resChunk i w h2).view _ _
    ((View.read_writes_whole _ _ _).trans (hX.trans (read_firstRows t i w h1 h2)))

/-! ## The result in sixteen chunks -/

/-- The first row of core `c`'s chunk `r`. -/
theorem off2_eq : ∀ (c : Fin (grid0.bound 0)) (r : Fin 8),
    k0_off2 (coordsS c) (BitVec.ofNat 32 (256 * r.val)) = ![0, 2048 * c.val + 256 * r.val, 0] := by decide +kernel

/-- The elements of core `c`'s chunk `r`, and of all its chunks. -/
abbrev chunkSet (c : Fin (grid0.bound 0)) (r : Fin 8) : Finset S1x4096x1024.Idx := (resPart (coordsS c) r).view.set
abbrev coreSet (c : Fin (grid0.bound 0)) : Finset S1x4096x1024.Idx := Finset.univ.biUnion (chunkSet c)

/-- An element is in a chunk if its row is. -/
theorem mem_chunkSet (c : Fin (grid0.bound 0)) (r : Fin 8) (j : S1x4096x1024.Idx) :
    j ∈ chunkSet c r ↔ 2048 * c.val + 256 * r.val ≤ (j 1).val ∧ (j 1).val < 2048 * c.val + 256 * r.val + 256 := by
  have hs : chunkSet c r = (Rect.unit (s := S1x4096x1024) (k0_off2 (coordsS c) (BitVec.ofNat 32 (256 * r.val))) S1x256x1024.size
      (k0_off2_inb (coordsS c) r)).set := by
    simp only [chunkSet, Memref.view_squeeze, View.set_reshape]
    exact View.set_slice_whole _ _
  rw [hs, Rect.mem_set_unit, off2_eq]
  constructor
  · exact fun h => h 1
  · intro h a
    match a with
    | 0 => exact ⟨Nat.zero_le _, (j 0).isLt⟩
    | 1 => exact h
    | 2 => exact ⟨Nat.zero_le _, lt_of_lt_of_eq (j 2).isLt (Nat.zero_add 1024).symm⟩

/-- Two chunks of one core share no element. -/
theorem chunks_apart (c : Fin (grid0.bound 0)) (r r' : Fin 8) (h : r ≠ r') : Disjoint (chunkSet c r) (chunkSet c r') :=
  Finset.disjoint_left.mpr fun j hj hj' => h (Fin.ext (by
    rw [mem_chunkSet] at hj hj'
    omega))

/-- The two cores' chunks share no element. -/
theorem cores_apart (c c' : Fin (grid0.bound 0)) (h : c ≠ c') : Disjoint (coreSet c) (coreSet c') :=
  Finset.disjoint_left.mpr fun j hj hj' => h (Fin.ext (by
    obtain ⟨r, -, hr⟩ := Finset.mem_biUnion.mp hj
    obtain ⟨r', -, hr'⟩ := Finset.mem_biUnion.mp hj'
    rw [mem_chunkSet] at hr hr'
    have := r.isLt; have := r'.isLt
    omega))

/-- Every element of the result is in a chunk of one of the cores. -/
theorem cores_cover : Finset.univ.biUnion coreSet = Finset.univ := by
  refine Finset.eq_univ_of_forall fun j => ?_
  have hj : (j 1).val < 4096 := (j 1).isLt
  refine Finset.mem_biUnion.mpr ⟨⟨(j 1).val / 2048, show (j 1).val / 2048 < 2 by omega⟩, Finset.mem_univ _,
    Finset.mem_biUnion.mpr ⟨⟨(j 1).val % 2048 / 256, by omega⟩, Finset.mem_univ _, (mem_chunkSet _ _ _).mpr ?_⟩⟩
  dsimp only
  omega

end Cert.Proof.SliceCopy
-- ==== Proof.Body.lean ====
/-
  One core's run of the kernel's body.
-/
module

public import proofs.«01_k».proof.Proof.Rows

@[expose] public section

noncomputable section

namespace Cert.Proof.SliceCopy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD)
variable [FloatOps F]

/-- DMA cell `k`. -/
abbrev cell (k : Nat) (hk : k < 8 := by decide) : SemLoc sig := .dma (⟨k, hk⟩ : DmaSem sig)

/-- The eight DMA cells of core `c`'s sequencer at zero. -/
abbrev cells0 (c : Fin (grid0.bound 0)) : sProp 𝕄 :=
  iprop(semVal (Sq d c, cell 0) 0 ∗ semVal (Sq d c, cell 1) 0 ∗ semVal (Sq d c, cell 2) 0 ∗ semVal (Sq d c, cell 3) 0
    ∗ semVal (Sq d c, cell 4) 0 ∗ semVal (Sq d c, cell 5) 0 ∗ semVal (Sq d c, cell 6) 0 ∗ semVal (Sq d c, cell 7) 0)

/-- Chunk of the table, held at a read share by exactly its own elements. -/
abbrev tabPts (c : Fin (grid0.bound 0)) (q : PosShare TreeShare) (w : BitVec 32)
    (h : ∀ a, k0_off1 (coordsS c) w a + S256x1024.size a ≤ S8192x1024.size a) (t : Buf (Elt F) (tabLoc d)) : sProp 𝕄 :=
  iprop((tabChunk (coordsS c) w h).view.loc (Sq d c) ↦[(tabChunk (coordsS c) w h).view.set]{q} t)

/-- Chunk of the result, held by exactly its own elements. -/
abbrev resPts (c : Fin (grid0.bound 0)) (w : BitVec 32)
    (h : ∀ a, k0_off2 (coordsS c) w a + S1x256x1024.size a ≤ S1x4096x1024.size a) (t : Buf (Elt F) (resLoc d)) : sProp 𝕄 :=
  iprop((resChunk (coordsS c) w h).view.loc (Sq d c) ↦[(resChunk (coordsS c) w h).view.set]{fullShare} t)

/-- The eight chunks of the result that core `c` fills, each holding `o` there. -/
abbrev resParts (c : Fin (grid0.bound 0)) (o : Buf (Elt F) (resLoc d)) : sProp 𝕄 :=
  iprop(resPts d c 0#32 (k0_off2_inb _ 0) o ∗ resPts d c 256#32 (k0_off2_inb _ 1) o
    ∗ resPts d c 512#32 (k0_off2_inb _ 2) o ∗ resPts d c 768#32 (k0_off2_inb _ 3) o
    ∗ resPts d c 1024#32 (k0_off2_inb _ 4) o ∗ resPts d c 1280#32 (k0_off2_inb _ 5) o
    ∗ resPts d c 1536#32 (k0_off2_inb _ 6) o ∗ resPts d c 1792#32 (k0_off2_inb _ 7) o)

/-- The eight chunks of the table that core `c` reads, each at a read share of its own. -/
abbrev tabParts (c : Fin (grid0.bound 0)) (q : Fin 8 → PosShare TreeShare) (t : Buf (Elt F) (tabLoc d)) : sProp 𝕄 :=
  iprop(tabPts d c (q 0) 0#32 (k0_off1_inb _ 0) t ∗ tabPts d c (q 1) 256#32 (k0_off1_inb _ 1) t
    ∗ tabPts d c (q 2) 512#32 (k0_off1_inb _ 2) t ∗ tabPts d c (q 3) 768#32 (k0_off1_inb _ 3) t
    ∗ tabPts d c (q 4) 1024#32 (k0_off1_inb _ 4) t ∗ tabPts d c (q 5) 1280#32 (k0_off1_inb _ 5) t
    ∗ tabPts d c (q 6) 1536#32 (k0_off1_inb _ 6) t ∗ tabPts d c (q 7) 1792#32 (k0_off1_inb _ 7) t)

/-- The four shared buffers of core `c`, each holding something. -/
abbrev bufs (c : Fin (grid0.bound 0)) : sProp 𝕄 :=
  iprop((∃ f, bufW0.view.loc (Sq d c) ↦{fullShare} f) ∗ (∃ f, bufW1.view.loc (Sq d c) ↦{fullShare} f)
    ∗ (∃ f, bufW2.view.loc (Sq d c) ↦{fullShare} f) ∗ (∃ f, bufW3.view.loc (Sq d c) ↦{fullShare} f))

omit [FloatOps F] in
/-- A chunk of the result filled with what the chunk of the table reads is that chunk at the table's first rows. -/
theorem filled (c : Fin (grid0.bound 0)) (t : Buf (Elt F) (tabLoc d)) (o : Buf (Elt F) (resLoc d)) (w : BitVec 32) (h1) (h2)
    (X : S256x1024.Idx → Elt F .f32) (hX : X = (tabChunk (coordsS c) w h1).view.read (Elt F) t) :
    (resPts d c w h2 ((resChunk (coordsS c) w h2).view.writes (Elt F) o [⟨Rect.whole S256x1024, X⟩]) : sProp 𝕄)
      ⊢ resPts d c w h2 (firstRows t) :=
  Entails.of_eq (pointsTo_congr (filled_eq t o (coordsS c) w h1 h2 X hX))

/-- The body run on core `c`'s sequencer: each chunk of the table goes through one of the four buffers into the chunk of the
    result at the same rows, so that the result's chunks end holding the table's first rows; the cells end at zero. -/
theorem seq_run (c : Fin (grid0.bound 0)) (O : CellTallies nD τ sig (HIx 1)) (W : Waits sig (HIx 1))
    (q : Fin 8 → PosShare TreeShare) (t : Buf (Elt F) (tabLoc d)) (o : Buf (Elt F) (resLoc d)) :
    (iprop(Transfers.MayWaits (Sq d c) (none : HIx 1) O ∗ tabParts d c q t ∗ resParts d c o ∗ bufs d c ∗ cells0 d c
        ∗ owes (Sq d c) O W) : sProp 𝕄)
      ⊢ wp frame (wpE (defs₀ (F := F)) 𝒱₀ (Sq d c) none) Set.univ
          (cc0__slice_copy (coordsS c) tabW (Memref.isWhole_whole _) resW (Memref.isWhole_whole _)
            bufW0 (Memref.isWhole_whole _) bufW1 (Memref.isWhole_whole _) bufW2 (Memref.isWhole_whole _) bufW3 (Memref.isWhole_whole _)
            cc0_scratch4 cc0_scratch5 cc0_scratch6 cc0_scratch7 cc0_scratch8 cc0_scratch9 cc0_scratch10 cc0_scratch11)
          fun _ => iprop(resParts d c (firstRows t) ∗ bufs d c ∗ cells0 d c ∗ ∃ W', owes (Sq d c) O W') := by
  iintro ⟨#Hmw, ⟨Ht0, Ht1, Ht2, Ht3, Ht4, Ht5, Ht6, Ht7⟩, ⟨Ho0, Ho1, Ho2, Ho3, Ho4, Ho5, Ho6, Ho7⟩,
    ⟨⟨%b0, Hb0⟩, ⟨%b1, Hb1⟩, ⟨%b2, Hb2⟩, ⟨%b3, Hb3⟩⟩, ⟨Hc0, Hc1, Hc2, Hc3, Hc4, Hc5, Hc6, Hc7⟩, HO⟩
  sl_unfold [cc0__slice_copy]
  sl_exec (disch := exact View.amount_pos _ _ (show 0 < S256x1024.numel by decide))
  sl_step
  -- what each chunk of the result holds
  isplitl [Ho0 Ho1 Ho2 Ho3 Ho4 Ho5 Ho6 Ho7]
  · isplitl [Ho0]; · iapply (filled d c t o 0#32 _ _ _ (View.read_write_univ _ _)); iexact Ho0
    isplitl [Ho1]; · iapply (filled d c t o 256#32 _ _ _ (View.read_write_univ _ _)); iexact Ho1
    isplitl [Ho2]; · iapply (filled d c t o 512#32 _ _ _ (View.read_write_univ _ _)); iexact Ho2
    isplitl [Ho3]; · iapply (filled d c t o 768#32 _ _ _ (View.read_write_univ _ _)); iexact Ho3
    isplitl [Ho4]; · iapply (filled d c t o 1024#32 _ _ _ (View.read_write_univ _ _)); iexact Ho4
    isplitl [Ho5]; · iapply (filled d c t o 1280#32 _ _ _ (View.read_write_univ _ _)); iexact Ho5
    isplitl [Ho6]; · iapply (filled d c t o 1536#32 _ _ _ (View.read_write_univ _ _)); iexact Ho6
    iapply (filled d c t o 1792#32 _ _ _ (View.read_write_univ _ _)); iexact Ho7
  isplitl [Hb0 Hb1 Hb2 Hb3]
  · isplitl [Hb0]; · iexists _; iexact Hb0
    isplitl [Hb1]; · iexists _; iexact Hb1
    isplitl [Hb2]; · iexists _; iexact Hb2
    iexists _; iexact Hb3
  isplitl [Hc0 Hc1 Hc2 Hc3 Hc4 Hc5 Hc6 Hc7]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexists _; iexact HO

end Cert.Proof.SliceCopy
-- ==== Proof.Core.lean ====
/-
  What the launch hands a core, opened into what the body's run takes, and the core's obligation towards the launch.
-/
module

public import proofs.«01_k».proof.Proof.Body

@[expose] public section

noncomputable section

namespace Cert.Proof.SliceCopy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Core

variable (d : Dev nD)

/-! ## The core's shares of the arrays, chunk by chunk -/

/-- The chunks of the table at read shares of their own, as a family. -/
theorem tabParts_eq (c : Fin (grid0.bound 0)) (q : Fin 8 → PosShare TreeShare) (t : Buf (Elt F) (tabLoc d)) :
    (bigSep Finset.univ fun r : Fin 8 => ((tabPart (coordsS c) r).view.loc (Sq d c) ↦[(tabPart (coordsS c) r).view.set]{q r} t : sProp 𝕄))
      = tabParts d c q t := by
  rw [bigSep_univ_eq_bigSepL [0, 1, 2, 3, 4, 5, 6, 7] (by decide) (by decide)]
  rfl

/-- The table at a read share holds each chunk of it at that share. -/
theorem tab_chunk (c : Fin (grid0.bound 0)) (q : PosShare TreeShare) (t : Buf (Elt F) (tabLoc d)) (r : Fin 8) :
    (tabLoc d ↦{q} t : sProp 𝕄) ⊢ (tabPart (coordsS c) r).view.loc (Sq d c) ↦[(tabPart (coordsS c) r).view.set]{q} t := by
  iintro H
  ihave H' := (pointsTo_split_subset (Finset.subset_univ (tabPart (coordsS c) r).view.set)).1 $$ H
  icases H' with ⟨H, -⟩
  iexact H

/-- A read share of the table gives the core its eight chunks, each at a read share of its own. -/
theorem tab_open (c : Fin (grid0.bound 0)) (q : PosShare TreeShare) (t : Buf (Elt F) (tabLoc d)) :
    (tabLoc d ↦{q} t : sProp 𝕄) ⊢ tabParts d c (Transfers.shareTok q 8) t := by
  rw [← tabParts_eq]
  have hmono : (bigSep Finset.univ fun r : Fin 8 => (tabLoc d ↦{Transfers.shareTok q 8 r} t : sProp 𝕄))
      ⊢ bigSep Finset.univ fun r : Fin 8 => ((tabPart (coordsS c) r).view.loc (Sq d c)
        ↦[(tabPart (coordsS c) r).view.set]{Transfers.shareTok q 8 r} t : sProp 𝕄) :=
    bigSep_mono fun r _ => tab_chunk d c (Transfers.shareTok q 8 r) t r
  iintro H
  ihave H' := (Transfers.pointsTo_toks_split q 8) $$ H
  icases H' with ⟨-, H⟩
  iapply hmono
  iexact H

/-- The core's part of the result is its eight chunks. -/
theorem res_open (c : Fin (grid0.bound 0)) (o : Buf (Elt F) (resLoc d)) :
    (resLoc d ↦[coreSet c]{fullShare} o : sProp 𝕄) = resParts d c o := by
  rw [pointsTo_biUnion (ℓ := resLoc d) Finset.univ (chunkSet c) fun r _ r' _ h => chunks_apart c r r' h,
    bigSep_univ_eq_bigSepL [0, 1, 2, 3, 4, 5, 6, 7] (by decide) (by decide)]
  rfl

/-! ## The core's buffers and cells -/

/-- Shared buffer `k`, and DMA cell `k`, of core `c`. -/
abbrev bufRef (c : Fin τ.nSC) (k : Fin 4) : DevRef τ sig := (Proc.scScalar c).devRef (⟨.shared, k, rfl⟩ : Ref sig .scScalar)
abbrev cellOf (c : Fin τ.nSC) (k : Fin 8) : GSem nD τ sig := (S d c, .dma (k : DmaSem sig))

/-- The sequencer's own buffers are the four shared ones and the rest. -/
theorem ownBufs_open (c : Fin (grid0.bound 0)) :
    (ownBufs (Sq d c) : sProp 𝕄)
      = iprop(bufs d c ∗ bigSep ((ownRefs (τ := τ) (sig := sig) (.scScalar (c.castLE hcore0))) \ Finset.univ.image (bufRef (c.castLE hcore0)))
          fun b => iprop(∃ f, ((d, b) : Loc nD τ sig) ↦{fullShare} f)) := by
  unfold SparseCore.Cfg.ownBufs
  rw [SparseCore.bigSep_sdiff_split' (t := Finset.univ.image (bufRef (c.castLE hcore0)))
      (Finset.image_subset_iff.mpr fun k _ => mem_ownRefs.mpr rfl),
    SparseCore.bigSep_image_of_injOn (fun a _ b _ h => by
      have := congrArg (fun r : DevRef τ sig => r.idx.val) h
      exact Fin.ext this),
    bigSep_univ_eq_bigSepL [0, 1, 2, 3] (by decide) (by decide)]
  rfl

/-- The sequencer's own cells at zero are the eight DMA cells and the rest. -/
theorem ownSems0_open (c : Fin (grid0.bound 0)) :
    (ownSems0 (Sq d c) : sProp 𝕄)
      = iprop(cells0 d c ∗ bigSep ((ownCells (Sq d c)) \ Finset.univ.image (cellOf d (c.castLE hcore0))) fun g => semVal g 0) := by
  unfold SparseCore.Cfg.ownSems0
  rw [SparseCore.bigSep_sdiff_split' (t := Finset.univ.image (cellOf d (c.castLE hcore0)))
      (Finset.image_subset_iff.mpr fun k _ => mem_ownCells.mpr
        ⟨rfl, (show ∀ s : DmaSem sig, (SemLoc.dma s : SemLoc sig).isScoped .scScalar = true by decide) _⟩),
    SparseCore.bigSep_image_of_injOn (fun a _ b _ h => by
      have := congrArg (fun g : GSem nD τ sig => g.2) h
      simp only [SemLoc.dma.injEq] at this; exact this),
    bigSep_univ_eq_bigSepL [0, 1, 2, 3, 4, 5, 6, 7] (by decide) (by decide)]
  rfl

/-! ## The core's obligation -/

variable [FloatOps F]

/-- A core that is handed a read share of the table at `t` and its part of the result leaves its part of the result at the
    table's first rows, its buffers, and its cells at zero. -/
theorem core_run (hF : (K (F := F)).Facts) (c : Fin (grid0.bound 0)) (q : PosShare TreeShare)
    (t : Buf (Elt F) (tabLoc d)) (o : Buf (Elt F) (resLoc d))
    (O : CellTallies nD τ sig (HIx 1)) (W : Waits sig (HIx 1)) (hO : ∀ g, O g none = 0) :
    (iprop(levAts (K (F := F)).L (K (F := F)).lev ∗ emp ∗ ((tabLoc d ↦{q} t) ∗ resLoc d ↦[coreSet c]{fullShare} o)
        ∗ scopedBufs (Sq d c) ∗ scopedSems0 (Sq d c) ∗ owes (Sq d c) O W) : sProp 𝕄)
      ⊢ wp frame (wpE (defs₀ (F := F)) 𝒱₀ (Sq d c) none) Set.univ
          (cc0__slice_copy (coordsS c) tabW (Memref.isWhole_whole _) resW (Memref.isWhole_whole _)
            bufW0 (Memref.isWhole_whole _) bufW1 (Memref.isWhole_whole _) bufW2 (Memref.isWhole_whole _) bufW3 (Memref.isWhole_whole _)
            cc0_scratch4 cc0_scratch5 cc0_scratch6 cc0_scratch7 cc0_scratch8 cc0_scratch9 cc0_scratch10 cc0_scratch11)
          fun _ => iprop((resLoc d ↦[coreSet c]{fullShare} firstRows t) ∗ scopedBufs (Sq d c) ∗ scopedSems0 (Sq d c)
            ∗ ∃ W', ⌜∀ p ∈ W', p ∈ W ∨ p.2 = none ∨ p.2 = some (0 : Fin 1)⌝ ∗ owes (Sq d c) O W') := by
  rw [(K (F := F)).scopedBufs_S hF d _, SparseCore.Cfg.scopedSems0_S (Val := Elt F) d _, ownSems0_open, ownBufs_open,
    res_open, res_open]
  iintro ⟨#Hlv, -, ⟨Ht, Ho⟩, ⟨⟨Hb, Hbufs⟩, Htiles⟩, ⟨⟨Hc, Hsems⟩, HtileSems⟩, HO⟩
  ihave Hmw := ((K (F := F)).mayWaits_none (thr := Sq d c) hO) $$ Hlv
  ihave Ht' := (tab_open d c q t) $$ Ht
  iapply (wp_wand_r Idealize.ShloMosaic.frame (wpE (defs₀ (F := F)) 𝒱₀ (Sq d c) none) Set.univ)
  isplitl [Ht' Ho Hb Hc HO]
  · iapply (seq_run d c O W _ t o)
    isplitr; · iexact Hmw
    isplitl [Ht']; · iexact Ht'
    isplitl [Ho]; · iexact Ho
    isplitl [Hb]; · iexact Hb
    isplitl [Hc]; · iexact Hc
    iexact HO
  iintro %_ ⟨Ho, Hb, Hc, %W', HO⟩
  isplitl [Ho]; · iexact Ho
  isplitl [Hb Hbufs Htiles]
  · isplitl [Hb Hbufs]
    · isplitl [Hb]; · iexact Hb
      iexact Hbufs
    iexact Htiles
  isplitl [Hc Hsems HtileSems]
  · isplitl [Hc Hsems]
    · isplitl [Hc]; · iexact Hc
      iexact Hsems
    iexact HtileSems
  iexists W'; isplitr
  · ipureintro; intro p _
    rcases p.2 with _ | k
    · exact .inr (.inl rfl)
    · exact .inr (.inr (congrArg some (Subsingleton.elim k 0)))
  · iexact HO

end Core

end Cert.Proof.SliceCopy
-- ==== Proof.Launch.lean ====
/-
  The launch: what the call hands each core and takes back, @main around it, and the run of the whole program.
-/
module

public import proofs.«01_k».proof.Proof.Core

@[expose] public section

noncomputable section

namespace Cert.Proof.SliceCopy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the call hands out and takes back -/

/-- The call runs on every core of its grid. -/
theorem nCore_eq (q : Fin 1) : (K (F := F)).nCore q = grid0.bound 0 := by
  match q with
  | 0 => rfl

/-- What core `c` is handed: a read share of the table and its part of the result, as they were at the launch. -/
abbrev handed (d : Dev nD) (c : Fin (grid0.bound 0)) : sProp 𝕄 :=
  iprop((tabLoc d ↦{Transfers.shareTok fullShare 2 c} m (tabLoc d)) ∗ resLoc d ↦[coreSet c]{fullShare} m (resLoc d))

/-- What core `c` gives back: its part of the result at the table's first rows. -/
abbrev given (d : Dev nD) (c : Fin (grid0.bound 0)) : sProp 𝕄 :=
  iprop(resLoc d ↦[coreSet c]{fullShare} firstRows (m (tabLoc d)))

def P : (K (F := F)).Pay (nD := nD) (Val := Elt F) (Name := ℕ) (U := UU) where
  st := fun q d c => handed m d (c.cast (nCore_eq q))
  dn := fun q d c => given m d (c.cast (nCore_eq q))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-- The table and the result whole give both cores what they are handed, and a read share of the table is left over. -/
theorem hand_out (d : Dev nD) :
    iprop((tabLoc d ↦{fullShare} m (tabLoc d)) ∗ resLoc d ↦{fullShare} m (resLoc d))
      ⊢ (iprop((tabLoc d ↦{Transfers.shareDrop fullShare 2} m (tabLoc d)) ∗ bigSep Finset.univ (handed m d)) : sProp 𝕄) := by
  have hres : (resLoc d ↦{fullShare} m (resLoc d) : sProp 𝕄)
      = bigSep Finset.univ fun c => iprop(resLoc d ↦[coreSet c]{fullShare} m (resLoc d)) := by
    rw [← pointsTo_biUnion (ℓ := resLoc d) Finset.univ coreSet fun c _ c' _ h => cores_apart c c' h, cores_cover]
  have hboth : (bigSep Finset.univ (handed m d) : sProp 𝕄)
      = iprop((bigSep Finset.univ fun c => tabLoc d ↦{Transfers.shareTok fullShare 2 c} m (tabLoc d))
        ∗ bigSep Finset.univ fun c => resLoc d ↦[coreSet c]{fullShare} m (resLoc d)) := bigSep_sep ..
  rw [hres, hboth]
  iintro ⟨Ht, Ho⟩
  ihave Ht' := (Transfers.pointsTo_toks_split fullShare 2) $$ Ht
  icases Ht' with ⟨Hrest, Htoks⟩
  isplitl [Hrest]; · iexact Hrest
  isplitl [Htoks]; · iexact Htoks
  iexact Ho

/-- What both cores give back is the whole result at the table's first rows. -/
theorem take_back (d : Dev nD) :
    (bigSep Finset.univ fun c : Fin ((K (F := F)).nCore 0) => (P m).dn 0 d c : sProp 𝕄)
      = (resLoc d ↦{fullShare} firstRows (m (tabLoc d))) := by
  rw [show (bigSep Finset.univ fun c : Fin ((K (F := F)).nCore 0) => (P m).dn 0 d c : sProp 𝕄) = bigSep Finset.univ (given m d) from rfl,
    ← pointsTo_biUnion (ℓ := resLoc d) Finset.univ coreSet fun c _ c' _ h => cores_apart c c' h, cores_cover]

variable [FloatOps F]

/-! ## The cores' obligation -/

/-- The body the label of the call runs on a core's sequencer. -/
theorem defs₀_scalar (c : Fin τ.nSC) :
    defs₀ (F := F) (.scScalar c) 0 ()
      = SparseCore.onCore hcore0 (fun c => cc0__slice_copy (coordsS c) tabW (Memref.isWhole_whole _) resW (Memref.isWhole_whole _)
          bufW0 (Memref.isWhole_whole _) bufW1 (Memref.isWhole_whole _) bufW2 (Memref.isWhole_whole _) bufW3 (Memref.isWhole_whole _)
          cc0_scratch4 cc0_scratch5 cc0_scratch6 cc0_scratch7 cc0_scratch8 cc0_scratch9 cc0_scratch10 cc0_scratch11) ⟨⟩ c := rfl

/-- Every core of the call's grid meets the launch's obligation. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact core_run d facts c _ _ _ O W hO

/-! ## @main -/

/-- The launch's element: the handshakes' rounds, nothing of the kernel's own. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : (bigSep Finset.univ fun thr : Thread nD τ => bigSep Finset.univ fun q : Fin 1 => (P (F := F) m).x q thr)
      = (iprop(emp) : sProp 𝕄) := by
    refine (bigSep_congr fun _ _ => ?_).trans (bigSep_emp_const _)
    exact bigSep_emp_const _
  unfold u₀
  rw [he, show (bigSep Finset.univ fun _ : Dev nD => iprop(emp)) = (iprop(emp) : sProp 𝕄) from bigSep_emp_const _]
  iintro Hu
  ihave H := (ownU_pair (initOf (K (F := F)).hsCells (K (F := F)).hsToks) (1 : Counters)) $$ Hu
  icases H with ⟨HH, -⟩
  imodintro
  isplitl [HH]; · iexact HH
  isplitr <;> iempintro

/-- @main's arrays are the two arguments and the result. -/
theorem unscopedBufs_eq (d : Dev nD) (W : (b : Ref sig .tc) → Buf (Elt F) ((d.tc : Thread nD τ).loc b)) :
    (unscopedBufs d W : sProp 𝕄)
      = iprop((argLoc d ↦{fullShare} W main_arg0) ∗ (tabLoc d ↦{fullShare} W main_arg1) ∗ resLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main ends with: the arguments as they were (of the table a read share), the result at the table's first rows. -/
abbrev FIN (d : Dev nD) : sProp 𝕄 :=
  iprop((argLoc d ↦{fullShare} m (argLoc d)) ∗ (tabLoc d ↦{Transfers.shareDrop fullShare 2} m (tabLoc d))
    ∗ resLoc d ↦{fullShare} firstRows (m (tabLoc d)))

/-- @main on a device's TensorCore: the call, between its arrays as they were and `FIN`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Ht, Ho⟩, Hts, -⟩, -⟩
  ihave H := (hand_out m d) $$ [Ht Ho]
  · isplitl [Ht]; · iexact Ht
    iexact Ho
  icases H with ⟨Ht, Hh⟩
  iapply ((K (F := F)).wp_run (D (F := F)) 𝒱 (EH := EH) (P := P m) κ d 0) $$ [Hst Hh Hb Ha Ht Hts]
  isplitr; · iexact Hctx
  isplitl [Hst]; · iexact Hst
  isplitl [Hh]; · iexact Hh
  iintro ⟨Hst, Hdn⟩
  ihave Ho := (Entails.of_eq (take_back m d)) $$ Hdn
  imodintro
  isplitl [Hst]; · iexact Hst
  isplitr [Hb Hts]
  · isplitl [Ha]; · iexact Ha
    isplitl [Ht]; · iexact Ht
    iexact Ho
  isplitl [Hb] <;> iassumption

/-- What a device's memory holds at the end. -/
def fq (d : Dev nD) (s' : Phys nD τ sig (Elt F)) : Prop :=
  s'.mem.mem (resLoc d) = firstRows (m (tabLoc d)) ∧ s'.mem.mem (argLoc d) = m (argLoc d) ∧ s'.mem.mem (tabLoc d) = m (tabLoc d)

theorem hfin (d : Dev nD) (s' : Phys nD τ sig (Elt F)) : iprop(FIN m d ∗ SI s') ⊢ (⌜fq m d s'⌝ : sProp 𝕄) := by
  iintro ⟨⟨Ha, Ht, Ho⟩, HSI⟩
  icombine HSI Ha gives %ha
  icombine HSI Ht gives %ht
  icombine HSI Ho gives %ho
  ipureintro
  exact ⟨funext fun i => ho i (Finset.mem_univ i), funext fun i => ha i (Finset.mem_univ i), funext fun i => ht i (Finset.mem_univ i)⟩

/-! ## The run of the whole program -/

/-- What every run ends in: on each device the result is the table's first rows and the arguments are unchanged; every
    semaphore is at zero. -/
def Ends : PUnit × MemSt nD τ sig (Elt F) → Prop := fun r =>
  (∀ c : Dev nD, r.2.mem (resLoc c) = firstRows (m (tabLoc c)) ∧ r.2.mem (argLoc c) = m (argLoc c) ∧ r.2.mem (tabLoc c) = m (tabLoc c))
    ∧ r.2.sem = fun _ => 0

theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (Ends m)
    (fun _ h hz => ⟨h, hz⟩)

end Cert.Proof.SliceCopy
-- ==== Proof.lean ====
/-
  The claims about the row-slice kernel: both frames, the idealization's ledger, and the equality of its result with the
  reference's, over extended reals and over bit patterns. All come from one run of the kernel (Proof/Launch.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Launch
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import Idealize.ShloMosaic.Adequacy
public import Idealize.ShloMosaic.Init

@[expose] public section

noncomputable section

namespace Cert.Proof

open Idealize.ShloMosaic Idealize.SL.Sem

/-- The reference's two operations, the slice and the added leading axis, give the table's first rows. -/
theorem reference_value {F : FTy → Type} {d : Dev Cert.KernelIdeal.nD} (t : Buf (Elt F) (SliceCopy.tabLoc d))
    (h : Cert.ReferenceIdeal.S8192x1024.Slices ![0, 0] Cert.ReferenceIdeal.S4096x1024)
    (h' : Cert.ReferenceIdeal.S4096x1024.BroadcastsInDim Cert.ReferenceIdeal.S1x4096x1024
      (![1, 2] : Fin 2 → Fin Cert.ReferenceIdeal.S1x4096x1024.rank)) :
    broadcastInDim Cert.ReferenceIdeal.S1x4096x1024 ![1, 2] h' (extractStridedSlice Cert.ReferenceIdeal.S4096x1024 ![0, 0] t h)
      = SliceCopy.firstRows t := by
  funext j
  refine congrArg t (funext fun a => ?_)
  match a with
  | 0 => exact Fin.ext (Nat.zero_add _)
  | 1 => exact Fin.ext (Nat.zero_add _)

/-- Over bit patterns, the kernel ends with its arguments unchanged and its semaphores at zero. -/
theorem frame_kernel : Cert.quiescent_Kernel := fun m ρ _ =>
  (θ_run Cert.KernelIdeal.defs _ _).mono (fun _ h => ⟨fun c => (h.1 c).2, h.2⟩) (SliceCopy.run_main (F := Bits) m ρ)

/-- Over extended reals, the kernel ends with its arguments unchanged and its semaphores at zero. -/
theorem frame_kernelIdeal : Cert.quiescent_KernelIdeal := fun m ρ _ =>
  (θ_run Cert.KernelIdeal.defs _ _).mono (fun _ h => ⟨fun c => (h.1 c).2, h.2⟩) (SliceCopy.run_main (F := Ideal) m ρ)

/-- Over extended reals, the reference ends with its arguments unchanged; it has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over bit patterns, the reference ends with its arguments unchanged; it has no semaphores. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Over extended reals, kernel and reference both end with the table's first rows. -/
theorem algebraic : Cert.algebraic_KernelIdeal_ReferenceIdeal := fun m ρ m' ρ' _ hagree =>
  ⟨fun c => SliceCopy.firstRows (m (SliceCopy.tabLoc c)),
    (θ_run Cert.KernelIdeal.defs _ _).mono (fun _ h => h.1) (SliceCopy.run_main (F := Ideal) m ρ),
    (θ_run Cert.ReferenceIdeal.defs _ _).mono
      (fun _ h c => ⟨((h c).1.trans (reference_value (d := c) _ _ _)).trans (congrArg SliceCopy.firstRows (hagree c).2), (h c).2⟩)
      (Cert.ReferenceIdeal.Value.run (F := Ideal) m' ρ')⟩

/-- Over bit patterns, kernel and reference both end with the table's first rows. -/
theorem bitexact : Cert.bitexact_Kernel_Reference := fun m ρ m' ρ' _ hagree =>
  ⟨fun c => SliceCopy.firstRows (m (SliceCopy.tabLoc c)),
    (θ_run Cert.KernelIdeal.defs _ _).mono (fun _ h => h.1) (SliceCopy.run_main (F := Bits) m ρ),
    (θ_run Cert.Reference.defs _ _).mono
      (fun _ h c => ⟨((h c).1.trans (reference_value (d := c) _ _ _)).trans (congrArg SliceCopy.firstRows (hagree c).2), (h c).2⟩)
      (Cert.Reference.Value.run (F := Bits) m' ρ')⟩

/-- Everything the certificate claims. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
